-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S1024x64 : Shape := ⟨2, ![1024, 64]⟩
abbrev S100000x64 : Shape := ⟨2, ![100000, 64]⟩
abbrev S1024x16 : Shape := ⟨2, ![1024, 16]⟩
abbrev S_ : Shape := ⟨0, ![]⟩
abbrev S100000 : Shape := ⟨1, ![100000]⟩
abbrev S1024 : Shape := ⟨1, ![1024]⟩

class Facts : Prop where
  reducesTo_S100000x64_S100000_d1 : S100000x64.ReducesTo [1] S100000
  h_S_ : 0 < S_.numel
  reducesTo_S1024x64_S1024_d1 : S1024x64.ReducesTo [1] S1024
  bcast_S_S1024x16 : S_.BroadcastsInDim S1024x16 (![] : Fin 0 → Fin S1024x16.rank)
  reducesTo_S1024x16_S_d0_1 : S1024x16.ReducesTo [0, 1] S_
  bcast_S_S100000 : S_.BroadcastsInDim S100000 (![] : Fin 0 → Fin S100000.rank)
  reducesTo_S100000_S_d0 : S100000.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_v3 : FVec F S1024 .f32) (main_v9 : IVec S_ 1) (main_v15 : IVec S_ 1) : IVec S_ 1 :=
  let main_v16 : IVec S_ 1 := andi main_v9 main_v15
  let main_cst_6 : FVec F S_ .f32 := constant S_ .f32 0x00000000#32
  let main_v17 : FVec F S1024 .f32 := broadcastInDim S1024 ![] bcast_S_S1024 main_cst_6
  let main_v18 : IVec S1024 1 := cmpf .oeq main_v3 main_v17
  let main_cst_7 : FVec F S_ .f32 := constant S_ .f32 0x26901D7D#32
  let main_v19 : FVec F S1024 .f32 := broadcastInDim S1024 ![] bcast_S_S1024 main_cst_7
  let main_v20 : IVec S1024 1 := cmpf .oge main_v3 main_v19
  let main_v21 : IVec S1024 1 := ori main_v18 main_v20
  let main_c_8 : IVec S_ 1 := constantI S_ 1 1#1
  let main_v22 : IVec S_ 1 := (fun x v => Host.reduce IntOp.andi x v reducesTo_S1024_S_d0 h_S_) main_v21 main_c_8
  let main_v23 : IVec S_ 1 := andi main_v16 main_v22
  main_v23

def fn {F : FTy → Type} [FloatOps F] (main_arg0 : FVec F S1024x64 .f32) (main_arg1 : FVec F S100000x64 .f32) (main_arg2 : IVec S1024x16 32) : IVec S_ 1 :=
  let main_v0 : FVec F S100000x64 .f32 := mulf main_arg1 main_arg1
  let main_cst : FVec F S_ .f32 := constant S_ .f32 0x00000000#32
  let main_v1 : FVec F S100000 .f32 := (fun x v => Host.reduceAdd x v reducesTo_S100000x64_S100000_d1 h_S_) main_v0 main_cst
  let main_v2 : FVec F S1024x64 .f32 := mulf main_arg0 main_arg0
  let main_cst_0 : FVec F S_ .f32 := constant S_ .f32 0x00000000#32
  let main_v3 : FVec F S1024 .f32 := (fun x v => Host.reduceAdd x v reducesTo_S1024x64_S1024_d1 h_S_) main_v2 main_cst_0
  let main_c : IVec S_ 32 := constantI S_ 32 0#32
  let main_v4 : IVec S1024x16 32 := broadcastInDim S1024x16 ![] bcast_S_S1024x16 main_c
  let main_v5 : IVec S1024x16 1 := cmpi .sge main_arg2 main_v4
  let main_c_1 : IVec S_ 32 := constantI S_ 32 100000#32
  let main_v6 : IVec S1024x16 32 := broadcastInDim S1024x16 ![] bcast_S_S1024x16 main_c_1
  let main_v7 : IVec S1024x16 1 := cmpi .slt main_arg2 main_v6
  let main_v8 : IVec S1024x16 1 := andi main_v5 main_v7
  let main_c_2 : IVec S_ 1 := constantI S_ 1 1#1
  let main_v9 : IVec S_ 1 := (fun x v => Host.reduce IntOp.andi x v reducesTo_S1024x16_S_d0_1 h_S_) main_v8 main_c_2
  let main_cst_3 : FVec F S_ .f32 := constant S_ .f32 0x00000000#32
  let main_v10 : FVec F S100000 .f32 := broadcastInDim S100000 ![] bcast_S_S100000 main_cst_3
  let main_v11 : IVec S100000 1 := cmpf .oeq main_v1 main_v10
  let main_cst_4 : FVec F S_ .f32 := constant S_ .f32 0x26901D7D#32
  let main_v12 : FVec F S100000 .f32 := broadcastInDim S100000 ![] bcast_S_S100000 main_cst_4
  let main_v13 : IVec S100000 1 := cmpf .oge main_v1 main_v12
  let main_v14 : IVec S100000 1 := ori main_v11 main_v13
  let main_c_5 : IVec S_ 1 := constantI S_ 1 1#1
  let main_v15 : IVec S_ 1 := (fun x v => Host.reduce IntOp.andi x v reducesTo_S100000_S_d0 h_S_) main_v14 main_c_5
  fn_part1 (F := F) main_v3 main_v9 main_v15
-- ==== Kernel.lean ====
abbrev S1024x64 : Shape := ⟨2, ![1024, 64]⟩
abbrev S100000x64 : Shape := ⟨2, ![100000, 64]⟩
abbrev S1024x16 : Shape := ⟨2, ![1024, 16]⟩
abbrev S_ : Shape := ⟨0, ![]⟩
abbrev S100352x64 : Shape := ⟨2, ![100352, 64]⟩
abbrev S1024x16x1 : Shape := ⟨3, ![1024, 16, 1]⟩
abbrev S1024x16x64 : Shape := ⟨3, ![1024, 16, 64]⟩
abbrev S1024x1x64 : Shape := ⟨3, ![1024, 1, 64]⟩
abbrev S1024 : Shape := ⟨1, ![1024]⟩
abbrev S1024x1 : Shape := ⟨2, ![1024, 1]⟩
abbrev S16 : Shape := ⟨1, ![16]⟩
abbrev S1024x1x16 : Shape := ⟨3, ![1024, 1, 16]⟩
abbrev S1024x16x16 : Shape := ⟨3, ![1024, 16, 16]⟩
abbrev S1x1x16 : Shape := ⟨3, ![1, 1, 16]⟩
abbrev S1x16x1 : Shape := ⟨3, ![1, 16, 1]⟩
abbrev S1x16x16 : Shape := ⟨3, ![1, 16, 16]⟩
abbrev S32x16x32 : Shape := ⟨3, ![32, 16, 32]⟩
abbrev S32x16 : Shape := ⟨2, ![32, 16]⟩
abbrev S1x1 : Shape := ⟨2, ![1, 1]⟩
abbrev S2048x64 : Shape := ⟨2, ![2048, 64]⟩
abbrev S2048 : Shape := ⟨1, ![2048]⟩
abbrev S2048x1 : Shape := ⟨2, ![2048, 1]⟩
abbrev S1024x2048 : Shape := ⟨2, ![1024, 2048]⟩
abbrev S1x2048 : Shape := ⟨2, ![1, 2048]⟩
abbrev S1x1024x2048 : Shape := ⟨3, ![1, 1024, 2048]⟩
abbrev S1 : Shape := ⟨1, ![1]⟩
abbrev S1x1x1 : Shape := ⟨3, ![1, 1, 1]⟩
abbrev S1x32x16 : Shape := ⟨3, ![1, 32, 16]⟩

abbrev nBuf : Space → Nat
  | .hbm => 57
  | .vmem => 5
  | .smem => 1
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x16, .i32⟩
  | .hbm, ⟨3, _⟩ => ⟨S_, .i32⟩
  | .hbm, ⟨4, _⟩ => ⟨S_, .f32⟩
  | .hbm, ⟨5, _⟩ => ⟨S100352x64, .f32⟩
  | .hbm, ⟨6, _⟩ => ⟨S_, .i32⟩
  | .hbm, ⟨7, _⟩ => ⟨S1024x16, .i32⟩
  | .hbm, ⟨8, _⟩ => ⟨S1024x16, .i1⟩
  | .hbm, ⟨9, _⟩ => ⟨S_, .i32⟩
  | .hbm, ⟨10, _⟩ => ⟨S1024x16, .i32⟩
  | .hbm, ⟨11, _⟩ => ⟨S1024x16, .i32⟩
  | .hbm, ⟨12, _⟩ => ⟨S1024x16, .i32⟩
  | .hbm, ⟨13, _⟩ => ⟨S1024x16x1, .i32⟩
  | .hbm, ⟨14, _⟩ => ⟨S1024x16x64, .f32⟩
  | .hbm, ⟨15, _⟩ => ⟨S1024x1x64, .f32⟩
  | .hbm, ⟨16, _⟩ => ⟨S1024x16x64, .f32⟩
  | .hbm, ⟨17, _⟩ => ⟨S1024x16x64, .f32⟩
  | .hbm, ⟨18, _⟩ => ⟨S_, .f32⟩
  | .hbm, ⟨19, _⟩ => ⟨S1024x16, .f32⟩
  | .hbm, ⟨20, _⟩ => ⟨S1024x16x64, .f32⟩
  | .hbm, ⟨21, _⟩ => ⟨S_, .f32⟩
  | .hbm, ⟨22, _⟩ => ⟨S1024x16, .f32⟩
  | .hbm, ⟨23, _⟩ => ⟨S1024x64, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x16, .f32⟩
  | .hbm, ⟨28, _⟩ => ⟨S1024x16, .f32⟩
  | .hbm, ⟨29, _⟩ => ⟨S_, .f32⟩
  | .hbm, ⟨30, _⟩ => ⟨S1024x16, .f32⟩
  | .hbm, ⟨31, _⟩ => ⟨S1024x16, .f32⟩
  | .hbm, ⟨32, _⟩ => ⟨S1024x16, .f32⟩
  | .hbm, ⟨33, _⟩ => ⟨S16, .i32⟩
  | .hbm, ⟨34, _⟩ => ⟨S1024x16x1, .i32⟩
  | .hbm, ⟨35, _⟩ => ⟨S1024x1x16, .i32⟩
  | .hbm, ⟨36, _⟩ => ⟨S1024x16x16, .i32⟩
  | .hbm, ⟨37, _⟩ => ⟨S1024x16x16, .i32⟩
  | .hbm, ⟨38, _⟩ => ⟨S1024x16x16, .i1⟩
  | .hbm, ⟨39, _⟩ => ⟨S1x1x16, .i32⟩
  | .hbm, ⟨40, _⟩ => ⟨S1x16x1, .i32⟩
  | .hbm, ⟨41, _⟩ => ⟨S1x16x16, .i32⟩
  | .hbm, ⟨42, _⟩ => ⟨S1x16x16, .i32⟩
  | .hbm, ⟨43, _⟩ => ⟨S1x16x16, .i1⟩
  | .hbm, ⟨44, _⟩ => ⟨S1024x16x16, .i1⟩
  | .hbm, ⟨45, _⟩ => ⟨S1024x16x16, .i1⟩
  | .hbm, ⟨46, _⟩ => ⟨S_, .i1⟩
  | .hbm, ⟨47, _⟩ => ⟨S1024x16, .i1⟩
  | .hbm, ⟨48, _⟩ => ⟨S1024x16, .f32⟩
  | .hbm, ⟨49, _⟩ => ⟨S_, .f32⟩
  | .hbm, ⟨50, _⟩ => ⟨S_, .f32⟩
  | .hbm, ⟨51, _⟩ => ⟨S1024x16, .f32⟩
  | .hbm, ⟨52, _⟩ => ⟨S1024x16, .f32⟩
  | .hbm, ⟨53, _⟩ => ⟨S32x16x32, .f32⟩
  | .hbm, ⟨54, _⟩ => ⟨S_, .f32⟩
  | .hbm, ⟨55, _⟩ => ⟨S32x16, .f32⟩
  | .hbm, ⟨56, _⟩ => ⟨S1x1, .f32⟩
  | .local _ .vmem, ⟨0, _⟩ => ⟨S1024x64, .f32⟩
  | .local _ .vmem, ⟨1, _⟩ => ⟨S2048x64, .f32⟩
  | .local _ .vmem, ⟨2, _⟩ => ⟨S2048x64, .f32⟩
  | .local _ .vmem, ⟨3, _⟩ => ⟨S32x16, .f32⟩
  | .local _ .vmem, ⟨4, _⟩ => ⟨S1024x64, .bf16⟩
  | .local _ .smem, ⟨0, _⟩ => ⟨S1x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x64 : Shape := ⟨2, ![1024, 64]⟩
abbrev S100000x64 : Shape := ⟨2, ![100000, 64]⟩
abbrev S1024x16 : Shape := ⟨2, ![1024, 16]⟩
abbrev S_ : Shape := ⟨0, ![]⟩
abbrev S100000 : Shape := ⟨1, ![100000]⟩
abbrev S100000x1 : Shape := ⟨2, ![100000, 1]⟩
abbrev S1024 : Shape := ⟨1, ![1024]⟩
abbrev S1024x1 : Shape := ⟨2, ![1024, 1]⟩
abbrev S64x100000 : Shape := ⟨2, ![64, 100000]⟩
abbrev S1024x100000 : Shape := ⟨2, ![1024, 100000]⟩
abbrev S1024x16x1 : Shape := ⟨3, ![1024, 16, 1]⟩
abbrev S1024x16x2 : Shape := ⟨3, ![1024, 16, 2]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x16, .i32⟩
  | .hbm, ⟨3, _⟩ => ⟨S100000x64, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S100000x1, .f32⟩
  | .hbm, ⟨10, _⟩ => ⟨S100000x1, .f32⟩
  | .hbm, ⟨11, _⟩ => ⟨S100000x64, .f32⟩
  | .hbm, ⟨12, _⟩ => ⟨S100000x64, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x64, .f32⟩
  | .hbm, ⟨22, _⟩ => ⟨S1024x64, .f32⟩
  | .hbm, ⟨23, _⟩ => ⟨S64x100000, .f32⟩
  | .hbm, ⟨24, _⟩ => ⟨S1024x100000, .f32⟩
  | .hbm, ⟨25, _⟩ => ⟨S_, .f32⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S1024x100000, .f32⟩
  | .hbm, ⟨30, _⟩ => ⟨S1024x100000, .f32⟩
  | .hbm, ⟨31, _⟩ => ⟨S1024, .i32⟩
  | .hbm, ⟨32, _⟩ => ⟨S1024x1, .i32⟩
  | .hbm, ⟨33, _⟩ => ⟨S_, .f32⟩
  | .hbm, ⟨34, _⟩ => ⟨S1024x100000, .f32⟩
  | .hbm, ⟨35, _⟩ => ⟨S_, .i32⟩
  | .hbm, ⟨36, _⟩ => ⟨S1024x1, .i32⟩
  | .hbm, ⟨37, _⟩ => ⟨S1024x1, .i1⟩
  | .hbm, ⟨38, _⟩ => ⟨S_, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S_, .i32⟩
  | .hbm, ⟨43, _⟩ => ⟨S1024x16, .i32⟩
  | .hbm, ⟨44, _⟩ => ⟨S1024x16, .i1⟩
  | .hbm, ⟨45, _⟩ => ⟨S_, .i32⟩
  | .hbm, ⟨46, _⟩ => ⟨S1024x16, .i32⟩
  | .hbm, ⟨47, _⟩ => ⟨S1024x16, .i32⟩
  | .hbm, ⟨48, _⟩ => ⟨S1024x16, .i32⟩
  | .hbm, ⟨49, _⟩ => ⟨S1024x16, .i32⟩
  | .hbm, ⟨50, _⟩ => ⟨S1024x16x1, .i32⟩
  | .hbm, ⟨51, _⟩ => ⟨S1024x16x1, .i32⟩
  | .hbm, ⟨52, _⟩ => ⟨S1024x16x2, .i32⟩
  | .hbm, ⟨53, _⟩ => ⟨S_, .f32⟩
  | .hbm, ⟨54, _⟩ => ⟨S1024x16, .f32⟩
  | .hbm, ⟨55, _⟩ => ⟨S1024x100000, .f32⟩
  | .hbm, ⟨56, _⟩ => ⟨S_, .f32⟩
  | .hbm, ⟨57, _⟩ => ⟨S1024x100000, .f32⟩
  | .hbm, ⟨58, _⟩ => ⟨S1024x100000, .f32⟩
  | .hbm, ⟨59, _⟩ => ⟨S1024x100000, .f32⟩
  | .hbm, ⟨60, _⟩ => ⟨S1024x100000, .f32⟩
  | .hbm, ⟨61, _⟩ => ⟨S1024x100000, .f32⟩
  | .hbm, ⟨62, _⟩ => ⟨S1024x100000, .f32⟩
  | .hbm, ⟨63, _⟩ => ⟨S1024x100000, .f32⟩
  | .hbm, ⟨64, _⟩ => ⟨S1024x100000, .f32⟩
  | .hbm, ⟨65, _⟩ => ⟨S1024x100000, .f32⟩
  | .hbm, ⟨66, _⟩ => ⟨S1024x100000, .f32⟩
  | .hbm, ⟨67, _⟩ => ⟨S_, .f32⟩
  | .hbm, ⟨68, _⟩ => ⟨S1024x100000, .f32⟩
  | .hbm, ⟨69, _⟩ => ⟨S1024x100000, .f32⟩
  | .hbm, ⟨70, _⟩ => ⟨S_, .f32⟩
  | .hbm, ⟨71, _⟩ => ⟨S1024x100000, .f32⟩
  | .hbm, ⟨72, _⟩ => ⟨S1024x100000, .f32⟩
  | .hbm, ⟨73, _⟩ => ⟨S1024x100000, .f32⟩
  | .hbm, ⟨74, _⟩ => ⟨S1024x100000, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S1x1, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Proof.Point.lean ====
/- What one grid point of the kernel leaves in its accumulator and in its carried scratch, as payloads of the blocks it reads. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable (m : (ℓ : Loc nD τ sig) → Buf (Elt Ideal) ℓ)

/-- A read of the one cell of a `1 × 1` array gives that cell, at whatever index. -/
theorem one_cell (x : Vec Ideal S1x1 .f32) (i y : S1x1.Idx) : x i = x y := by
  congr 1
  funext a
  exact Fin.ext (by
    have h1 := (i a).isLt
    have h2 := (y a).isLt
    match a with
    | ⟨0, _⟩ => exact (Nat.lt_one_iff.mp h1).trans (Nat.lt_one_iff.mp h2).symm
    | ⟨1, _⟩ => exact (Nat.lt_one_iff.mp h1).trans (Nat.lt_one_iff.mp h2).symm)

/-- After a point of the first case the accumulator holds the first block's part over a zero. -/
theorem outA (c : Dev nD) (t : Fin cfg0.N) (h0 : t.val % 49 = 0) (h1 : ¬t.val % 49 = 48) :
    (outsAt0 m c t.val t.isLt).1 = fun _ => k0_pay3 (F := Ideal) (grid0.coords t) (iblk m c 1 t) (k0_pay2 (F := Ideal) (iblk m c 0 t)) (Scalar.ofBits (F := Ideal) .f32 0x00000000#32) := by
  rw [outsAt0_A m c t h0 h1]
  frame_out
  rfl

/-- After a point of the first case the scratch holds the scaled rows. -/
theorem scrA (c : Dev nD) (t : Fin cfg0.N) (h0 : t.val % 49 = 0) (h1 : ¬t.val % 49 = 48) :
    (outsAt0 m c t.val t.isLt).2 = k0_pay2 (F := Ideal) (iblk m c 0 t) := by
  rw [outsAt0_A m c t h0 h1]
  frame_out

/-- After a middle point the accumulator holds that block's part over what it held. -/
theorem outB (c : Dev nD) (t : Fin cfg0.N) (h0 : ¬t.val % 49 = 0) (h1 : ¬t.val % 49 = 48) (y : S1x1.Idx) :
    (outsAt0 m c t.val t.isLt).1 y = k0_pay3 (F := Ideal) (grid0.coords t) (iblk m c 1 t)
      (outsAt0 m c (t.val - 1) (Nat.lt_of_le_of_lt (Nat.sub_le _ _) t.isLt)).2
      ((outsAt0 m c (t.val - 1) (Nat.lt_of_le_of_lt (Nat.sub_le _ _) t.isLt)).1 y) := by
  rw [outsAt0_B m c t h0 h1]
  frame_out
  exact congr (congrArg (k0_pay3 (F := Ideal) (grid0.coords t) (iblk m c 1 t)) (Memref.IsWhole.read_unread _ _))
    (one_cell (outsAt0 m c (t.val - 1) (Nat.lt_of_le_of_lt (Nat.sub_le _ _) t.isLt)).1 _ y)

/-- A point after the first leaves the scratch as it was. -/
theorem scrB (c : Dev nD) (t : Fin cfg0.N) (h0 : ¬t.val % 49 = 0) :
    (outsAt0 m c t.val t.isLt).2 = (outsAt0 m c (t.val - 1) (Nat.lt_of_le_of_lt (Nat.sub_le _ _) t.isLt)).2 := by
  by_cases h1 : t.val % 49 = 48
  · rw [outsAt0_C m c t h0 h1]; rfl
  · rw [outsAt0_B m c t h0 h1]; rfl

/-- After the last point the accumulator holds the finished sum: the last block added, the label term taken off, the scale applied. -/
theorem outC (c : Dev nD) (t : Fin cfg0.N) (h0 : ¬t.val % 49 = 0) (h1 : t.val % 49 = 48) (y : S1x1.Idx) :
    (outsAt0 m c t.val t.isLt).1 y = k0_pay1 (F := Ideal) (iblk m c 2 t) (k0_pay3 (F := Ideal) (grid0.coords t) (iblk m c 1 t)
      (outsAt0 m c (t.val - 1) (Nat.lt_of_le_of_lt (Nat.sub_le _ _) t.isLt)).2
      ((outsAt0 m c (t.val - 1) (Nat.lt_of_le_of_lt (Nat.sub_le _ _) t.isLt)).1 y)) := by
  rw [outsAt0_C m c t h0 h1]
  frame_out
  exact congrArg (k0_pay1 (F := Ideal) (iblk m c 2 t)) (congr (congrArg (k0_pay3 (F := Ideal) (grid0.coords t) (iblk m c 1 t))
    (Memref.IsWhole.read_unread _ _)) (one_cell (outsAt0 m c (t.val - 1) (Nat.lt_of_le_of_lt (Nat.sub_le _ _) t.isLt)).1 _ y))

/-- The softplus the kernel computes: the positive part, plus the logarithm of one plus the exponential of minus the size. -/
def softp (s : EReal) : EReal := max s 0 + Ideal.log1p (Ideal.exp (0 - FloatOps.absf (F := Ideal) (φ := .f32) s))

/-- The reciprocal length of a row from its sum of squares, as the kernel floors it. -/
def rlen (ss : EReal) : EReal := Ideal.rsqrt (max ss (Ideal.ofBits FTy.f32 396017173#32))

/-- The closing step: fifty times the label sum comes off, and the scale is applied. -/
theorem pay1_eq (v : Vec Ideal S32x16 .f32) (a : EReal) : k0_pay1 (F := Ideal) v a =
    (a - Ideal.ofBits FTy.f32 1112014848#32 * ∑ p : Fin 32, ∑ q : Fin 16, v (ix2 p q)) * Ideal.ofBits FTy.f32 994888909#32 := by
  unfold k0_pay1
  pointwise []

/-- The scaled row: the entry times fifty times the reciprocal length. -/
theorem pay2_eq (x : Vec Ideal S1024x64 .f32) (i : Fin 1024) (k : Fin 64) : k0_pay2 (F := Ideal) x (ix2 i k) =
    x (ix2 i k) * (Ideal.ofBits FTy.f32 1112014848#32 * rlen (∑ d : Fin 64, x (ix2 i d) * x (ix2 i d))) := by
  unfold rlen
  pointwise [k0_pay2]

/-- One block's part: the softplus of every product of a scaled row with a normalised column, the padding columns at zero, summed over what was held. -/
theorem pay3_eq (i : grid0.Coords) (v3 : Vec Ideal S2048x64 .f32) (v14 : Vec Ideal S1024x64 .bf16) (a : EReal) :
    k0_pay3 (F := Ideal) i v3 v14 a = a + ∑ r : Fin 1024, ∑ j : Fin 2048,
      Scalar.select (IntOp.cmpi CmpIPredicate.slt
          (IntOp.addi (Scalar.muli (BitVec.ofNat 32 ↑(i 0)) 2048#32) (BitVec.ofNat 32 ↑j)) 100000#32)
        (softp (∑ d : Fin 64, v14 (ix2 r d) * (v3 (ix2 j d) * rlen (∑ e : Fin 64, v3 (ix2 j e) * v3 (ix2 j e))))) 0 := by
  unfold k0_pay3 softp rlen
  pointwise []

end Cert.KernelIdeal.Loss

end
-- ==== Proof.Ref.lean ====
/- The reference's result read at its one cell: a sum over rows and tags of the labelled loss, and the label array read at an entry. -/
module

public import proofs.«01_k».proof.Proof.Gen.ReferenceIdeal.Run
public import Idealize.ShloMosaic.Lib.Pointwise
public import Idealize.ShloMosaic.Lib.Tactic.CleanTypes
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem

namespace Cert.ReferenceIdeal.Loss

open Cert.ReferenceIdeal Cert.ReferenceIdeal.Gen Cert.ReferenceIdeal.Value

/-- The index pairs of the label scatter: row `i`, and the tag word after the wrap of negative words. -/
def pairs (T : IVec S1024x16 32) : IVec S1024x16x2 32 :=
  concatenate S1024x16x2 2
    [⟨S1024x16x1,
        broadcastInDim S1024x16x1 ![0, 1] bcast_S1024x16_S1024x16x1_0_1
          (broadcastInDim S1024x16 ![0, 1] bcast_S1024x1_S1024x16_0_1
            (select
              (cmpi CmpIPredicate.slt
                (broadcastInDim S1024x1 ![0] bcast_S1024_S1024x1_0 (iotaInDim S1024 32 0))
                (broadcastInDim S1024x1 ![] bcast_S_S1024x1 (constantI S_ 32 0#32)))
              (addi (broadcastInDim S1024x1 ![0] bcast_S1024_S1024x1_0 (iotaInDim S1024 32 0))
                (broadcastInDim S1024x1 ![] bcast_S_S1024x1 (constantI S_ 32 1024#32)))
              (broadcastInDim S1024x1 ![0] bcast_S1024_S1024x1_0 (iotaInDim S1024 32 0))))⟩,
      ⟨S1024x16x1,
        broadcastInDim S1024x16x1 ![0, 1] bcast_S1024x16_S1024x16x1_0_1
          (select
            (cmpi CmpIPredicate.slt T
              (broadcastInDim S1024x16 ![] bcast_S_S1024x16 (constantI S_ 32 0#32)))
            (addi T
              (broadcastInDim S1024x16 ![] bcast_S_S1024x16 (constantI S_ 32 100000#32)))
            T)⟩]
    concatenates_S1024x16x1_S1024x16x1_S1024x16x2_d2

/-- The label array: zeros, with ones set at the index pairs. -/
def label (T : IVec S1024x16 32) : Vec Ideal S1024x100000 .f32 :=
  Host.scatter scatter_S1024x100000_S1024x16x2_S1024x16_n_01_01_2 (fun _ b => b)
    (broadcastInDim S1024x100000 ![] bcast_S_S1024x100000 (constant (F := Ideal) S_ FTy.f32 0#32))
    (pairs T)
    (broadcastInDim S1024x16 ![] bcast_S_S1024x16 (constant (F := Ideal) S_ FTy.f32 1065353216#32))

/-- An entry of a row over the row's length, as the reference floors it. -/
def unit (x ss : EReal) : EReal := Ideal.div x (max (Ideal.sqrt ss) (Ideal.ofBits FTy.f32 730643660#32))

/-- The reference's similarity of row `i` and tag `k`. -/
def sim (X : Vec Ideal S1024x64 .f32) (Y : Vec Ideal S100000x64 .f32) (i : Fin 1024) (k : Fin 100000) : EReal :=
  Ideal.ofBits FTy.f32 1112014848#32 * ∑ d : Fin 64,
    unit (X (ix2 i d)) (∑ e : Fin 64, X (ix2 i e) * X (ix2 i e)) * unit (Y (ix2 k d)) (∑ e : Fin 64, Y (ix2 k e) * Y (ix2 k e))

/-- The loss of similarity `s` under label `l`. -/
def loss (s l : EReal) : EReal := max s 0 - s * l + Ideal.log1p (Ideal.exp (-FloatOps.absf (F := Ideal) (φ := .f32) s))

variable (m : (ℓ : Loc nD τ sig) → Buf (Elt Ideal) ℓ)

/-- The reference's one result cell. -/
def total (X : Vec Ideal S1024x64 .f32) (Y : Vec Ideal S100000x64 .f32) (T : IVec S1024x16 32) : EReal :=
  Ideal.div (∑ i : Fin 1024, ∑ k : Fin 100000,
      (loss (sim X Y i k) (label T (ix2 i k)) * label T (ix2 i k) + loss (sim X Y i k) (label T (ix2 i k)) * (1 - label T (ix2 i k))))
    (Ideal.ofBits FTy.f32 1149239296#32) * Ideal.ofBits FTy.f32 1107296256#32 * Ideal.ofBits FTy.f32 1036831949#32

/-- The reference's result is its formula, at its one cell. -/
theorem ref_eq (c : Dev nD) (y : S1x1.Idx) : (res_out0 m c : Vec Ideal S1x1 .f32) y
    = total (m ((c.tc : Thread nD τ).loc main_arg0)) (m ((c.tc : Thread nD τ).loc main_arg1)) (m ((c.tc : Thread nD τ).loc main_arg2)) := by
  unfold res_out0 res_main_v56 total loss sim unit label pairs
  clean_types
  pointwise

open Idealize.ShloMosaic.Routing in
/-- Where a tag word lands: with tag words that are not negative, entry `(i, k)` of the label array is one when some tag of row `i` is `k`, else zero. -/
theorem label_eq (T : IVec S1024x16 32) (hT : ∀ i t, (T (ix2 i t)).toNat < 100000) (i : Fin 1024) (k : Fin 100000) :
    label T (ix2 i k) = if ∃ t : Fin 16, (T (ix2 i t)).toNat = k.val then 1 else 0 := by
  have h0 : ∀ (a : Fin 1024) (b : Fin 16), pairs T (ix3 a b 0) = BitVec.ofNat 32 a.val := by
    intro a b
    pointwise [pairs]
    exact wrap_of_lt _ _ (by rw [BitVec.toNat_ofNat]; omega)
  have h1 : ∀ (a : Fin 1024) (b : Fin 16), pairs T (ix3 a b 1) = T (ix2 a b) := by
    intro a b
    pointwise [pairs]
    exact wrap_of_lt _ _ (by have := hT a b; omega)
  have hl : ∀ (a : Fin 1024) (b : Fin 16),
      scatter_S1024x100000_S1024x16x2_S1024x16_n_01_01_2.resultIdx? (ix2 a b) (pairs T) = some (ix2 i k)
        ↔ a = i ∧ (T (ix2 a b)).toNat = k.val := by
    intro a b
    have hab := hT a b
    have h := scatter_lands2 (R := 1024) (C := 100000) (A := 1024) (B := 16)
      scatter_S1024x100000_S1024x16x2_S1024x16_n_01_01_2 rfl rfl rfl (pairs T) a b i k
    simp only [← ix2_eq_valueIdx, ← ix3_eq_valueIdx] at h
    refine h.trans ?_
    rw [h0, h1, BitVec.toInt_eq_toNat_of_lt (by rw [BitVec.toNat_ofNat]; omega), BitVec.toInt_eq_toNat_of_lt (by omega),
      BitVec.toNat_ofNat, Nat.mod_eq_of_lt (by omega), Fin.ext_iff]
    omega
  by_cases hex : ∃ t : Fin 16, (T (ix2 i t)).toNat = k.val
  · rw [if_pos hex]
    obtain ⟨t, ht⟩ := hex
    refine (scatter_set_hit _ _ _ _ _ (Ideal.ofBits FTy.f32 1065353216#32) (fun _ _ => rfl) (ix2 i t) ((hl i t).2 ⟨rfl, ht⟩)).trans ?_
    exact Ideal.ofBits_one_f32
  · rw [if_neg hex]
    refine (scatter_set_miss _ _ _ _ _ fun u hu => ?_).trans ?_
    · idx_vars u
      obtain ⟨rfl, h⟩ := (hl _ _).1 hu
      exact hex ⟨_, h⟩
    · exact Ideal.ofBits_zero_f32

end Cert.ReferenceIdeal.Loss

end
-- ==== Proof.Rows.lean ====
/- One row's arithmetic over the extended reals: a row's sum of squares, its direction, and the product of two rows' directions, in the forms the kernel and the reference write them. -/
module

public import proofs.«01_k».proof.Proof.Point
public import proofs.«01_k».proof.Proof.Ref

@[expose] public section

set_option maxRecDepth 16384

noncomputable section

open Idealize.ShloMosaic

namespace Cert.Rows

/-- The kernel's and the reference's factor fifty. -/
theorem lit_fifty : Ideal.ofBits FTy.f32 1112014848#32 = ((50 : ℝ) : EReal) := by
  simp [Ideal.ofBits, Ideal.ieee, -EReal.coe_mul]
  norm_num

/-- The kernel's closing scale, as a number. -/
theorem lit_scale : Ideal.ofBits FTy.f32 994888909#32 = ((13421773 / 134217728 / 32 : ℝ) : EReal) := by
  simp [Ideal.ofBits, Ideal.ieee, -EReal.coe_mul]
  norm_num

/-- The reference's loss weight, as a number. -/
theorem lit_weight : Ideal.ofBits FTy.f32 1036831949#32 = ((13421773 / 134217728 : ℝ) : EReal) := by
  simp [Ideal.ofBits, Ideal.ieee, -EReal.coe_mul]
  norm_num

/-- The reference's batch factor. -/
theorem lit_batch : Ideal.ofBits FTy.f32 1107296256#32 = ((32 : ℝ) : EReal) := by
  simp [Ideal.ofBits, Ideal.ieee, -EReal.coe_mul]
  norm_num

/-- The reference's row count. -/
theorem lit_count : Ideal.ofBits FTy.f32 1149239296#32 = ((1024 : ℝ) : EReal) := by
  simp [Ideal.ofBits, Ideal.ieee, -EReal.coe_mul]
  norm_num

/-- The floor of a row's sum of squares that the precondition names. -/
def least : ℝ := 9444733 / 9444732965739290427392

/-- The precondition's floor. -/
theorem lit_least : Ideal.ofBits FTy.f32 0x26901D7D#32 = (least : EReal) := by
  simp [Ideal.ofBits, Ideal.ieee, least, -EReal.coe_mul]
  norm_num

/-- The kernel's floor of a sum of squares. -/
theorem lit_floor : ∃ e : ℝ, Ideal.ofBits FTy.f32 396017173#32 = (e : EReal) ∧ 0 < e ∧ e ≤ least := by
  refine ⟨10141205 / 10141204801825835211973625643008, ?_, by norm_num, by norm_num [least]⟩
  simp [Ideal.ofBits, Ideal.ieee, -EReal.coe_mul]
  norm_num

/-- The kernel's floor of a product of two sums of squares. -/
theorem lit_floor2 : ∃ e : ℝ, Ideal.ofBits FTy.f32 228737632#32 = (e : EReal) ∧ 0 < e ∧ e ≤ least * least := by
  refine ⟨332307 / 332306998946228968225951765070086144, ?_, by norm_num, by norm_num [least]⟩
  simp [Ideal.ofBits, Ideal.ieee, -EReal.coe_mul]
  norm_num

/-- The reference's floor of a length. -/
theorem lit_floorR : ∃ e : ℝ, Ideal.ofBits FTy.f32 730643660#32 = (e : EReal) ∧ 0 < e ∧ e * e ≤ least := by
  refine ⟨2305843 / 2305843009213693952, ?_, by norm_num, by norm_num [least]⟩
  simp [Ideal.ofBits, Ideal.ieee, -EReal.coe_mul]
  norm_num

open Cert.KernelIdeal.Loss (rlen softp)
open Cert.ReferenceIdeal.Loss (unit loss)

/-- The sum of real numbers, in the extended reals. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-- The greater of two real numbers, in the extended reals. -/
theorem coe_max (a b : ℝ) : ((max a b : ℝ) : EReal) = max (a : EReal) (b : EReal) :=
  EReal.coe_strictMono.monotone.map_max

/-- A row's sum of squares. -/
def ss (x : Fin 64 → EReal) : EReal := ∑ e : Fin 64, x e * x e

/-- What the precondition says of a row: its sum of squares is zero or at least the floor. -/
def Ok (x : Fin 64 → EReal) : Prop := ss x = 0 ∨ (least : EReal) ≤ ss x

/-- A row's direction, as a row of real numbers: zero for a row of zeros and for a row with an infinite entry. -/
def dir (x : Fin 64 → EReal) (d : Fin 64) : ℝ := (x d).toReal * (Real.sqrt (ss x).toReal)⁻¹

/-- A square is not negative, over the extended reals. -/
theorem sq_nonneg (x : EReal) : 0 ≤ x * x := by
  induction x with
  | bot => simp
  | top => simp
  | coe r => exact_mod_cast mul_self_nonneg r

/-- A row with an infinite entry has an infinite sum of squares; every other row is a row of real numbers. -/
theorem finite_or (x : Fin 64 → EReal) : ss x = ⊤ ∨ ∃ r : Fin 64 → ℝ, ∀ d, x d = (r d : EReal) := by
  by_cases h : ∃ d, x d * x d = ⊤
  · obtain ⟨d, hd⟩ := h
    left
    refine top_le_iff.mp ?_
    rw [← hd]
    exact Finset.single_le_sum (f := fun e => x e * x e) (fun e _ => sq_nonneg _) (Finset.mem_univ d)
  · right
    refine ⟨fun d => (x d).toReal, fun d => (EReal.coe_toReal ?_ ?_).symm⟩
    · intro hx
      exact h ⟨d, by rw [hx]; simp⟩
    · intro hx
      exact h ⟨d, by rw [hx]; simp⟩

/-- A row's three cases under the precondition: an infinite sum of squares, all entries zero, or real entries with a sum of squares above the floor. -/
theorem cases (x : Fin 64 → EReal) (h : Ok x) : ss x = ⊤ ∨ (ss x = 0 ∧ ∀ d, x d = 0) ∨
    ∃ (r : Fin 64 → ℝ) (S : ℝ), (∀ d, x d = (r d : EReal)) ∧ ss x = (S : EReal) ∧ least ≤ S := by
  rcases finite_or x with ht | ⟨r, hr⟩
  · exact Or.inl ht
  · right
    have hs : ss x = ((∑ e, r e * r e : ℝ) : EReal) := by
      unfold ss
      rw [coe_sum]
      exact Finset.sum_congr rfl fun e _ => by rw [hr e, EReal.coe_mul]
    rcases h with h0 | h1
    · left
      refine ⟨h0, fun d => ?_⟩
      rw [hs] at h0
      have hz : ∑ e, r e * r e = 0 := by exact_mod_cast h0
      have hd := (Finset.sum_eq_zero_iff_of_nonneg (fun e _ => mul_self_nonneg (r e))).mp hz d (Finset.mem_univ d)
      rw [hr d, mul_self_eq_zero.mp hd]
      rfl
    · right
      refine ⟨r, _, hr, hs, ?_⟩
      rw [hs] at h1
      exact_mod_cast h1

/-- The precondition's floor is positive. -/
theorem least_pos : 0 < least := by norm_num [least]

/-- The direction of a row of an infinite sum of squares is zero. -/
theorem dir_top (x : Fin 64 → EReal) (h : ss x = ⊤) (d : Fin 64) : dir x d = 0 := by
  simp [dir, h]

/-- The direction of a row of zeros is zero. -/
theorem dir_zero (x : Fin 64 → EReal) (h : ∀ d, x d = 0) (d : Fin 64) : dir x d = 0 := by
  simp [dir, h]

/-- The direction of a row of real entries. -/
theorem dir_coe (x : Fin 64 → EReal) (r : Fin 64 → ℝ) (S : ℝ) (h : ∀ d, x d = (r d : EReal)) (hs : ss x = (S : EReal)) (d : Fin 64) :
    dir x d = r d * (Real.sqrt S)⁻¹ := by
  simp [dir, h, hs]

/-- The kernel's reciprocal length of a row of a sum of squares above the floor. -/
theorem rlen_coe (S : ℝ) (h : least ≤ S) : rlen (S : EReal) = (((Real.sqrt S)⁻¹ : ℝ) : EReal) := by
  obtain ⟨e, he, h0, h1⟩ := lit_floor
  have hS : 0 < S := least_pos.trans_le h
  unfold rlen
  rw [he, max_eq_left (by exact_mod_cast h1.trans h), Ideal.rsqrt_coe, if_neg hS.le.not_gt, if_neg hS.ne']

/-- The kernel's reciprocal length of a row of an infinite sum of squares is zero. -/
theorem rlen_top : rlen ⊤ = 0 := by
  unfold rlen
  rw [max_eq_left le_top, Ideal.rsqrt_top]

/-- The kernel's scaled entry of a table row is the row's direction. -/
theorem mul_rlen (x : Fin 64 → EReal) (h : Ok x) (d : Fin 64) : x d * rlen (ss x) = (dir x d : EReal) := by
  rcases cases x h with ht | ⟨h0, hz⟩ | ⟨r, S, hr, hs, hl⟩
  · rw [dir_top x ht, ht, rlen_top, mul_zero]
    rfl
  · rw [dir_zero x hz, hz, zero_mul]
    rfl
  · rw [dir_coe x r S hr hs, hs, rlen_coe S hl, hr, EReal.coe_mul]

/-- The kernel's scaled entry of a region row is fifty times the row's direction. -/
theorem mul_fifty_rlen (x : Fin 64 → EReal) (h : Ok x) (d : Fin 64) :
    x d * (Ideal.ofBits FTy.f32 1112014848#32 * rlen (ss x)) = ((50 * dir x d : ℝ) : EReal) := by
  rw [mul_left_comm, mul_rlen x h, lit_fifty, EReal.coe_mul]

/-- The reference's normalized entry is the row's direction. -/
theorem unit_eq (x : Fin 64 → EReal) (h : Ok x) (d : Fin 64) : unit (x d) (ss x) = (dir x d : EReal) := by
  obtain ⟨e, he, h0, h1⟩ := lit_floorR
  unfold unit Ideal.div
  rcases cases x h with ht | ⟨hs0, hz⟩ | ⟨r, S, hr, hs, hl⟩
  · rw [dir_top x ht, ht, Ideal.sqrt_top, max_eq_left le_top, if_neg (by simp), EReal.inv_top, mul_zero]
    rfl
  · have hp : max (Ideal.sqrt (ss x)) (Ideal.ofBits FTy.f32 730643660#32) ≠ 0 := by
      refine ne_of_gt (lt_of_lt_of_le ?_ (le_max_right _ _))
      rw [he]
      exact_mod_cast h0
    rw [dir_zero x hz, hz, if_neg hp, zero_mul]
    rfl
  · have hS : 0 < S := least_pos.trans_le hl
    have hle : e ≤ Real.sqrt S := Real.le_sqrt_of_sq_le (by nlinarith)
    rw [dir_coe x r S hr hs, hs, he, Ideal.sqrt_coe, if_neg hS.le.not_gt, max_eq_left (by exact_mod_cast hle),
      if_neg (by exact_mod_cast (Real.sqrt_pos.mpr hS).ne'), hr, EReal.coe_mul, EReal.coe_inv]

/-- The kernel's label entry, one division for both rows, is the product of the two directions. -/
theorem mul_rsqrt (x y : Fin 64 → EReal) (hx : Ok x) (hy : Ok y) :
    (∑ d : Fin 64, y d * x d) * Ideal.rsqrt (max (ss y * ss x) (Ideal.ofBits FTy.f32 228737632#32))
      = ((∑ d : Fin 64, dir x d * dir y d : ℝ) : EReal) := by
  obtain ⟨e, he, h0, h1⟩ := lit_floor2
  rcases cases x hx with htx | ⟨hsx, hzx⟩ | ⟨r, S, hr, hs, hl⟩
  · have hR : (∑ d : Fin 64, dir x d * dir y d : ℝ) = 0 := Finset.sum_eq_zero fun d _ => by rw [dir_top x htx, zero_mul]
    rw [hR]
    rcases cases y hy with hty | ⟨hsy, hzy⟩ | ⟨r', S', hr', hs', hl'⟩
    · rw [htx, hty, EReal.top_mul_top, max_eq_left le_top, Ideal.rsqrt_top, mul_zero]
      rfl
    · rw [Finset.sum_eq_zero fun d _ => by rw [hzy, zero_mul], zero_mul]
      rfl
    · rw [htx, hs', EReal.coe_mul_top_of_pos (least_pos.trans_le hl'), max_eq_left le_top, Ideal.rsqrt_top, mul_zero]
      rfl
  · have hR : (∑ d : Fin 64, dir x d * dir y d : ℝ) = 0 := Finset.sum_eq_zero fun d _ => by rw [dir_zero x hzx, zero_mul]
    rw [hR, Finset.sum_eq_zero fun d _ => by rw [hzx, mul_zero], zero_mul]
    rfl
  · have hS : 0 < S := least_pos.trans_le hl
    rcases cases y hy with hty | ⟨hsy, hzy⟩ | ⟨r', S', hr', hs', hl'⟩
    · have hR : (∑ d : Fin 64, dir x d * dir y d : ℝ) = 0 := Finset.sum_eq_zero fun d _ => by rw [dir_top y hty, mul_zero]
      rw [hR, hty, hs, EReal.top_mul_coe_of_pos hS, max_eq_left le_top, Ideal.rsqrt_top, mul_zero]
      rfl
    · have hR : (∑ d : Fin 64, dir x d * dir y d : ℝ) = 0 := Finset.sum_eq_zero fun d _ => by rw [dir_zero y hzy, mul_zero]
      rw [hR, Finset.sum_eq_zero fun d _ => by rw [hzy, zero_mul], zero_mul]
      rfl
    · have hS' : 0 < S' := least_pos.trans_le hl'
      have hP : 0 < S' * S := mul_pos hS' hS
      have hle : e ≤ S' * S := h1.trans (mul_le_mul hl' hl least_pos.le hS'.le)
      have hsum : (∑ d : Fin 64, y d * x d) = ((∑ d : Fin 64, r' d * r d : ℝ) : EReal) := by
        rw [coe_sum]
        exact Finset.sum_congr rfl fun d _ => by rw [hr d, hr' d, EReal.coe_mul]
      rw [hsum, hs, hs', ← EReal.coe_mul, he, max_eq_left (by exact_mod_cast hle), Ideal.rsqrt_coe, if_neg hP.le.not_gt,
        if_neg hP.ne', ← EReal.coe_mul, Finset.sum_mul]
      refine congrArg _ (Finset.sum_congr rfl fun d _ => ?_)
      rw [dir_coe x r S hr hs, dir_coe y r' S' hr' hs', Real.sqrt_mul hS'.le, mul_inv]
      ring

/-- The softplus of a real number. -/
def sp (s : ℝ) : ℝ := max s 0 + Real.log (1 + Real.exp (-|s|))

/-- The absolute value of a real number. -/
theorem absf_coe (s : ℝ) : FloatOps.absf (F := Ideal) (φ := .f32) (s : EReal) = ((|s| : ℝ) : EReal) := by
  show max (s : EReal) (-(s : EReal)) = _
  rw [← EReal.coe_neg, ← coe_max]
  rfl

/-- The logarithm of one plus an exponential of a real number. -/
theorem log1p_exp (a : ℝ) : Ideal.log1p (Ideal.exp (a : EReal)) = ((Real.log (1 + Real.exp a) : ℝ) : EReal) := by
  have hp : 0 < 1 + Real.exp a := by positivity
  unfold Ideal.log1p
  rw [Ideal.exp_coe, ← EReal.coe_one, ← EReal.coe_add, Ideal.log_coe, if_neg hp.not_ge]

/-- The kernel's softplus of a real number. -/
theorem softp_coe (s : ℝ) : softp (s : EReal) = (sp s : EReal) := by
  unfold softp
  rw [absf_coe, zero_sub, ← EReal.coe_neg, log1p_exp, ← EReal.coe_zero, ← coe_max, ← EReal.coe_add]
  rfl

/-- The reference's loss of a real similarity under a real label. -/
theorem loss_coe (s l : ℝ) : loss (s : EReal) (l : EReal) = ((sp s - s * l : ℝ) : EReal) := by
  unfold loss
  rw [absf_coe, ← EReal.coe_neg, log1p_exp, ← EReal.coe_zero, ← coe_max, ← EReal.coe_mul, ← EReal.coe_sub, ← EReal.coe_add]
  refine congrArg _ ?_
  unfold sp
  ring

end Cert.Rows

end
-- ==== Proof.Pre.lean ====
/- The precondition, read as facts about the tag words and the rows. -/
module

public import proofs.«01_k».proof.Pre_admissible
public import proofs.«01_k».proof.Proof.Rows
public import Idealize.ShloMosaic.Lib.ReduceAll
public import Idealize.ShloMosaic.Lib.Affine
public import Idealize.ShloMosaic.Lib.WordArith
public import Idealize.ShloMosaic.Lib.Pointwise

@[expose] public section

set_option maxRecDepth 16384

noncomputable section

open Idealize.ShloMosaic

namespace Cert.Pre_admissible.Loss

open Cert.Pre_admissible Cert.Rows

/-- The side conditions of the precondition's operations. -/
theorem facts : Cert.Pre_admissible.Facts where
  reducesTo_S100000x64_S100000_d1 := by decide
  h_S_ := by decide
  reducesTo_S1024x64_S1024_d1 := by decide
  bcast_S_S1024x16 := by decide
  reducesTo_S1024x16_S_d0_1 := by decide
  bcast_S_S100000 := by decide
  reducesTo_S100000_S_d0 := by decide
  bcast_S_S1024 := by decide
  reducesTo_S1024_S_d0 := by decide

/-- One row's bit of the precondition: the sum of squares equals zero or is at least the floor. -/
theorem ok_of_bit (x : Fin 64 → EReal)
    (h : IntOp.ori (Ideal.cmp .oeq (ss x) (Ideal.ofBits FTy.f32 0#32)) (Ideal.cmp .oge (ss x) (Ideal.ofBits FTy.f32 0x26901D7D#32)) = 1#1) : Ok x := by
  rw [lit_least, Ideal.ofBits_zero_f32] at h
  unfold Ideal.cmp at h
  rw [WordArith.ori_ofBool, WordArith.ofBool_eq_one_iff, Bool.or_eq_true] at h
  exact h.imp of_decide_eq_true of_decide_eq_true

/-- The precondition gives every tag word's range and every row's bound. -/
theorem read (X : FVec Ideal S1024x64 .f32) (Y : FVec Ideal S100000x64 .f32) (T : IVec S1024x16 32) [Facts]
    (h : fn (F := Ideal) X Y T = fun _ => 1#1) :
    (∀ i t, (T (ix2 i t)).toNat < 100000) ∧ (∀ i, Ok fun d => X (ix2 i d)) ∧ ∀ k, Ok fun d => Y (ix2 k d) := by
  have h0 := congrFun h ix0
  dsimp only [fn, fn_part1] at h0
  obtain ⟨h1, hX⟩ := IntOp.andi_eq_one.mp h0
  obtain ⟨hT, hY⟩ := IntOp.andi_eq_one.mp h1
  refine ⟨fun i t => ?_, fun i => ?_, fun k => ?_⟩
  · obtain ⟨e1, e2⟩ := IntOp.andi_eq_one.mp (Host.reduce_andi_all _ _ _ _ _ hT (ix2 i t))
    have e1' : (0#32 : BitVec 32).toInt ≤ (T (ix2 i t)).toInt := IntOp.cmpi_sge.mp e1
    have e2' : (T (ix2 i t)).toInt < (100000#32 : BitVec 32).toInt := IntOp.cmpi_slt.mp e2
    have z1 : (0#32 : BitVec 32).toInt = 0 := by decide
    have z2 : (100000#32 : BitVec 32).toInt = 100000 := by decide
    have hl := (T (ix2 i t)).isLt
    rw [z1] at e1'
    rw [z2] at e2'
    rw [BitVec.toInt_eq_toNat_cond] at e1' e2'
    split_ifs at e1' e2' <;> omega
  · refine ok_of_bit _ (Eq.trans ?_ (Host.reduce_andi_all _ _ _ _ _ hX (ix1 i)))
    unfold ss
    pointwise
  · refine ok_of_bit _ (Eq.trans ?_ (Host.reduce_andi_all _ _ _ _ _ hY (ix1 k)))
    unfold ss
    pointwise

end Cert.Pre_admissible.Loss

end
-- ==== Proof.Acc.lean ====
/- The kernel's result array after the run: the sum over all blocks, less the label sum, scaled. -/
module

public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable (m : (ℓ : Loc nD τ sig) → Buf (Elt Ideal) ℓ)

/-- The grid has 49 points. -/
theorem lt_points (t : Fin cfg0.N) : t.val < 49 := lt_of_lt_of_eq t.isLt (show cfg0.N = 49 from N_0)

/-- The point's own coordinate is its number. -/
theorem coord_eq : ∀ t : Fin cfg0.N, ((grid0.coords t) 0).val = t.val := by decide +kernel

/-- The first window stays at the one block its array has. -/
theorem idx0 : ∀ t : Fin cfg0.N, (cfg0.win 0).index t = ![0, 0] := by decide +kernel

/-- The second window's block at point `t` is block `t` of the rows. -/
theorem idx1 : ∀ t : Fin cfg0.N, (cfg0.win 1).index t = ![t.val, 0] := by decide +kernel

/-- The third window stays at the one block its array has. -/
theorem idx2 : ∀ t : Fin cfg0.N, (cfg0.win 2).index t = ![0, 0] := by decide +kernel

/-- The first window's block is the whole first argument, at every point. -/
theorem blk0 (c : Dev nD) (t : Fin cfg0.N) (i : Fin 1024) (d : Fin 64) :
    iblk m c 0 t (ix2 i d) = m ((c : Thread nD τ).loc main_arg0) (ix2 i d) := by
  blk_ext [iblk, V, idx0 t]

/-- The second window's block at point `t` is the padded table's rows from `2048 t`. -/
theorem blk1 (c : Dev nD) (t : Fin cfg0.N) (j : Fin 2048) (d : Fin 64) :
    iblk m c 1 t (ix2 j d) = V m c main_v0 (ix2 ⟨t.val * 2048 + j.val, by have := lt_points t; omega⟩ d) := by
  blk_ext [iblk, idx1 t]

/-- The third window's block is the whole label array. -/
theorem blk2 (c : Dev nD) (t : Fin cfg0.N) (p : Fin 32) (q : Fin 16) :
    iblk m c 2 t (ix2 p q) = V m c main_v39 (ix2 p q) := by
  blk_ext [iblk, idx2 t]

/-- The product of scaled row `r` of the first table with normalised row `k` of the padded second table. -/
def sim (X : Vec Ideal S1024x64 .f32) (P : Vec Ideal S100352x64 .f32) (r : Fin 1024) (k : Fin 100352) : EReal :=
  ∑ d : Fin 64, X (ix2 r d) * (Ideal.ofBits FTy.f32 1112014848#32 * rlen (∑ e : Fin 64, X (ix2 r e) * X (ix2 r e)))
    * (P (ix2 k d) * rlen (∑ e : Fin 64, P (ix2 k e) * P (ix2 k e)))

/-- Block `t`'s part of the sum: the softplus of every product, for the columns of the unpadded table. -/
def part (X : Vec Ideal S1024x64 .f32) (P : Vec Ideal S100352x64 .f32) (t : Fin 49) : EReal :=
  ∑ r : Fin 1024, ∑ j : Fin 2048,
    if t.val * 2048 + j.val < 100000 then softp (sim X P r ⟨t.val * 2048 + j.val, by omega⟩) else 0

/-- The kernel's column test as a comparison of numbers. -/
theorem select_col (t j : ℕ) (ht : t < 49) (hj : j < 2048) (x : EReal) :
    Scalar.select (IntOp.cmpi CmpIPredicate.slt
          (IntOp.addi (Scalar.muli (BitVec.ofNat 32 t) 2048#32) (BitVec.ofNat 32 j)) 100000#32) x (0 : EReal)
      = if t * 2048 + j < 100000 then x else 0 := by
  have e : IntOp.addi (Scalar.muli (BitVec.ofNat 32 t) 2048#32) (BitVec.ofNat 32 j) = BitVec.ofNat 32 (t * 2048 + j) := by
    show BitVec.ofNat 32 t * BitVec.ofNat 32 2048 + BitVec.ofNat 32 j = _
    rw [← BitVec.ofNat_mul, ← BitVec.ofNat_add]
  have hi : (BitVec.ofNat 32 (t * 2048 + j)).toInt = ((t * 2048 + j : ℕ) : ℤ) := by
    rw [BitVec.toInt_eq_toNat_cond, BitVec.toNat_ofNat, Nat.mod_eq_of_lt (by omega), if_pos (by omega)]
  have e2 : IntOp.cmpi CmpIPredicate.slt (BitVec.ofNat 32 (t * 2048 + j)) 100000#32 = BitVec.ofBool (decide (t * 2048 + j < 100000)) := by
    show BitVec.ofBool ((BitVec.ofNat 32 (t * 2048 + j)).slt 100000#32) = _
    rw [BitVec.slt_eq_decide, hi, show (100000#32 : BitVec 32).toInt = 100000 by decide]
    congr 2
    exact propext (by omega)
  rw [e, e2]
  unfold Scalar.select
  by_cases hc : t * 2048 + j < 100000 <;> simp [hc]

/-- The payload of a block at the scaled rows of `X` is the block's part over what was held. -/
theorem pay3_part (c : Dev nD) (t : Fin cfg0.N) (S : Vec Ideal S1024x64 .bf16) (hS : S = k0_pay2 (F := Ideal) (m ((c : Thread nD τ).loc main_arg0))) (a : EReal) :
    k0_pay3 (F := Ideal) (grid0.coords t) (iblk m c 1 t) S a
      = a + part (m ((c : Thread nD τ).loc main_arg0)) (V m c main_v0) ⟨t.val, lt_points t⟩ := by
  subst hS
  rw [pay3_eq]
  congr 1
  unfold part
  refine Finset.sum_congr rfl fun r _ => Finset.sum_congr rfl fun j _ => ?_
  rw [coord_eq t, select_col _ _ (lt_points t) j.isLt]
  simp only [sim, pay2_eq, blk1]

/-- The scratch holds the scaled rows of the first argument after every point. -/
theorem scr_eq (c : Dev nD) (n : ℕ) (hn : n < cfg0.N) :
    (outsAt0 m c n hn).2 = k0_pay2 (F := Ideal) (m ((c : Thread nD τ).loc main_arg0)) := by
  induction n with
  | zero =>
    rw [scrA m c ⟨0, hn⟩ rfl (show ¬(0 % 49 = 48) by decide)]
    congr 1
    funext y
    idx_vars y
    exact blk0 m c _ _ _
  | succ n ih =>
    have h := lt_points ⟨n + 1, hn⟩
    rw [scrB m c ⟨n + 1, hn⟩ (by dsimp only at h ⊢; omega)]
    exact ih _

/-- The accumulator before the last point: the parts of the blocks so far. -/
theorem acc_eq (c : Dev nD) (n : ℕ) (hn : n < cfg0.N) (h : n < 48) (y : S1x1.Idx) :
    (outsAt0 m c n hn).1 y = ∑ k : Fin (n + 1), part (m ((c : Thread nD τ).loc main_arg0)) (V m c main_v0) ⟨k.val, by omega⟩ := by
  induction n with
  | zero =>
    rw [outA m c ⟨0, hn⟩ rfl (show ¬(0 % 49 = 48) by decide)]
    rw [pay3_part m c _ _ ((scrA m c ⟨0, hn⟩ rfl (show ¬(0 % 49 = 48) by decide)).symm.trans (scr_eq m c 0 hn))]
    simp
  | succ n ih =>
    rw [outB m c ⟨n + 1, hn⟩ (by dsimp only; omega) (by dsimp only; omega) y]
    rw [pay3_part m c _ _ (scr_eq m c _ _)]
    rw [Fin.sum_univ_castSucc]
    congr 1
    exact ih _ (by omega)

/-- The result's one cell, from the two tables and the label sums: the kernel's formula. -/
def total (X : Vec Ideal S1024x64 .f32) (P : Vec Ideal S100352x64 .f32) (L : Vec Ideal S32x16 .f32) : EReal :=
  ((∑ t : Fin 49, part X P t) - Ideal.ofBits FTy.f32 1112014848#32 * ∑ p : Fin 32, ∑ q : Fin 16, L (ix2 p q))
    * Ideal.ofBits FTy.f32 994888909#32

/-- The result array after the run. -/
theorem final (c : Dev nD) : (dats m 0 c).arrAt 3 cfg0.N
    = fun _ => total (m ((c : Thread nD τ).loc main_arg0)) (V m c main_v0) (V m c main_v39) := by
  refine (dats m 0 c).arrAt_eq_of_covers 3 _ (by decide +kernel) fun t hf y => ?_
  have ht := (flush0_3 t).mp hf
  blk_simp
  rw [after0_3, outC m c t (by omega) ht, pay3_part m c _ _ (scr_eq m c _ _), pay1_eq]
  have h49 := lt_points t
  have e48 : t.val = 48 := by omega
  rw [acc_eq m c _ _ (by omega)]
  simp only [blk2]
  unfold total
  congr 2
  obtain ⟨n, hn⟩ := t
  dsimp only at e48
  subst e48
  exact (Fin.sum_univ_castSucc (n := 48) _).symm

end Cert.KernelIdeal.Loss

end
-- ==== Proof.Host.lean ====
/- What the host lines before the launch leave for the kernel: the padded table and the label sums, read at an index. -/
module

public import proofs.«01_k».proof.Proof.Point
public import Idealize.ShloMosaic.Lib.StableHlo.ReadAt
public import Idealize.ShloMosaic.Lib.Routing.OpsPair
public import Idealize.ShloMosaic.Lib.Routing.OpsOrder
public import Idealize.ShloMosaic.Lib.WordArith

@[expose] public section

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable (m : (ℓ : Loc nD τ sig) → Buf (Elt Ideal) ℓ)

/-- The padded table: the table's rows, then rows of zeros. -/
theorem tab_eq (c : Dev nD) (k : Fin 100352) (d : Fin 64) : (V m c main_v0 : Vec Ideal S100352x64 .f32) (ix2 k d)
    = (if h : k.val < 100000 then (m ((c : Thread nD τ).loc main_arg1) : Vec Ideal S100000x64 .f32) (ix2 ⟨k.val, h⟩ d) else (0 : EReal) : EReal) := by
  unfold V
  after_reads_at
  split
  · rfl
  · show ((((0#32 : BitVec 32).toInt : ℤ) : ℝ) : EReal) = 0
    simp

/-- The gathered rows: for each row and tag place, the table's row that the tag word names, after the wrap of negative words. -/
def rows (Y : Vec Ideal S100000x64 .f32) (T : IVec S1024x16 32) : Vec Ideal S1024x16x64 .f32 :=
  Host.gather gather_S100000x64_S1024x16x1_S1024x16x64_2_0_n_n_0_2_164 Y
    (broadcastInDim S1024x16x1 ![0, 1] bcast_S1024x16_S1024x16x1_0_1
      (select (cmpi CmpIPredicate.slt T (broadcastInDim S1024x16 ![] bcast_S_S1024x16 (constantI S_ 32 0#32)))
        (addi T (broadcastInDim S1024x16 ![] bcast_S_S1024x16 (constantI S_ 32 100000#32))) T))

/-- A gather of whole rows reads, at result index `(i, t, d)`, column `d` of the row the start index `(i, t, 0)` names. -/
theorem gather_at (Y : Vec Ideal S100000x64 .f32) (I : IVec S1024x16x1 32) (i : Fin 1024) (t : Fin 16) (d : Fin 64) (n : Fin 100000)
    (hn : (I (ix3 i t 0)).toInt.toNat = n.val) :
    Host.gather gather_S100000x64_S1024x16x1_S1024x16x64_2_0_n_n_0_2_164 Y I (ix3 i t d) = Y (ix2 n d) := by
  have hrow : (0 : Fin 2) ∈ gather_S100000x64_S1024x16x1_S1024x16x64_2_0_n_n_0_2_164.startIndexMap := List.mem_singleton.mpr rfl
  have hcol : (1 : Fin 2) ∉ gather_S100000x64_S1024x16x1_S1024x16x64_2_0_n_n_0_2_164.startIndexMap := by
    intro h
    cases List.mem_singleton.mp h
  have hat : gather_S100000x64_S1024x16x1_S1024x16x64_2_0_n_n_0_2_164.siIdx (ix3 i t d)
      ⟨_, List.idxOf_lt_length_iff.2 hrow⟩ = ix3 i t 0 := by
    funext b
    apply Fin.ext
    match b with
    | ⟨0, _⟩ => rfl
    | ⟨1, _⟩ => rfl
    | ⟨2, _⟩ => rfl
  refine congrArg Y (funext fun a => Fin.ext ?_)
  match a with
  | ⟨0, _⟩ =>
    have h0 : gather_S100000x64_S1024x16x1_S1024x16x64_2_0_n_n_0_2_164.start (ix3 i t d) I 0 = n.val := by
      unfold GatherDims.start
      rw [dif_pos hrow, hat, hn]
      exact Nat.min_eq_left (Nat.le_sub_one_of_lt n.isLt)
    have hb := GatherDims.batchCoord_eq_zero gather_S100000x64_S1024x16x1_S1024x16x64_2_0_n_n_0_2_164 (ix3 i t d) 0 List.not_mem_nil
    have ho := GatherDims.offCoord_eq_zero gather_S100000x64_S1024x16x1_S1024x16x64_2_0_n_n_0_2_164 (ix3 i t d) 0
      fun h => ((GatherDims.mem_sKept _ _).mp h).1 (List.mem_singleton.mpr rfl)
    exact (congrArg₂ (· + ·) (congrArg₂ (· + ·) h0 hb) ho)
  | ⟨1, _⟩ =>
    have h0 : gather_S100000x64_S1024x16x1_S1024x16x64_2_0_n_n_0_2_164.start (ix3 i t d) I 1 = 0 := dif_neg hcol
    have hb := GatherDims.batchCoord_eq_zero gather_S100000x64_S1024x16x1_S1024x16x64_2_0_n_n_0_2_164 (ix3 i t d) 1 List.not_mem_nil
    have ho : gather_S100000x64_S1024x16x1_S1024x16x64_2_0_n_n_0_2_164.offCoord (ix3 i t d) 1 = d.val := rfl
    exact (congrArg₂ (· + ·) (congrArg₂ (· + ·) h0 hb) ho).trans (Nat.zero_add _)

/-- A gathered row is the table's row of the tag's number, for a tag word in range. -/
theorem rows_eq (Y : Vec Ideal S100000x64 .f32) (T : IVec S1024x16 32) (i : Fin 1024) (t : Fin 16) (h : (T (ix2 i t)).toNat < 100000) (d : Fin 64) :
    rows Y T (ix3 i t d) = Y (ix2 ⟨(T (ix2 i t)).toNat, h⟩ d) := by
  refine gather_at _ _ i t d _ ?_
  pointwise
  rw [Routing.wrap_of_lt _ _ (lt_trans h (by decide)), BitVec.toInt_eq_toNat_of_lt (by omega)]
  rfl

/-- What one tag place adds to the label sum, as the host lines write it: zero where the word repeats that of an earlier place, else the product of the two rows over the product of their lengths. -/
def share (X : Vec Ideal S1024x64 .f32) (Y : Vec Ideal S100000x64 .f32) (T : IVec S1024x16 32) (i : Fin 1024) (t : Fin 16) : EReal :=
  Scalar.select (Finset.fold IntOp.ori (0#1)
      (fun t' : Fin 16 => IntOp.andi (IntOp.cmpi .eq (T (ix2 i t)) (T (ix2 i t')))
        (IntOp.cmpi .slt (BitVec.ofNat 32 t'.val) (BitVec.ofNat 32 t.val))) Finset.univ)
    0
    ((∑ d : Fin 64, rows Y T (ix3 i t d) * X (ix2 i d)) *
      Ideal.rsqrt (max ((∑ d : Fin 64, rows Y T (ix3 i t d) * rows Y T (ix3 i t d)) * ∑ d : Fin 64, X (ix2 i d) * X (ix2 i d))
        (Ideal.ofBits FTy.f32 228737632#32)))

/-- Tag place `t` of row `i` repeats an earlier place's word. -/
def Again (T : IVec S1024x16 32) (i : Fin 1024) (t : Fin 16) : Prop := ∃ t' : Fin 16, T (ix2 i t) = T (ix2 i t') ∧ t' < t

open Classical in
open Idealize.ShloMosaic.Routing in
/-- The share of a tag place by cases. -/
theorem share_eq (X : Vec Ideal S1024x64 .f32) (Y : Vec Ideal S100000x64 .f32) (T : IVec S1024x16 32) (i : Fin 1024) (t : Fin 16) :
    share X Y T i t = if Again T i t then 0 else
      (∑ d : Fin 64, rows Y T (ix3 i t d) * X (ix2 i d)) *
        Ideal.rsqrt (max ((∑ d : Fin 64, rows Y T (ix3 i t d) * rows Y T (ix3 i t d)) * ∑ d : Fin 64, X (ix2 i d) * X (ix2 i d))
          (Ideal.ofBits FTy.f32 228737632#32)) := by
  unfold share
  generalize hb : Finset.fold IntOp.ori (0#1) (fun t' : Fin 16 => IntOp.andi (IntOp.cmpi .eq (T (ix2 i t)) (T (ix2 i t')))
        (IntOp.cmpi .slt (BitVec.ofNat 32 t'.val) (BitVec.ofNat 32 t.val))) (Finset.univ : Finset (Fin 16)) = b
  have hA : b = 1#1 ↔ Again T i t := by
    rw [← hb, fold_ori]
    unfold Again
    refine exists_congr fun t' => ?_
    have hlt : BitVec.slt (BitVec.ofNat 32 t'.val) (BitVec.ofNat 32 t.val) = decide (t' < t) := by
      clear hb
      revert t t'
      decide
    simp only [IntOp.cmpi, WordArith.andi_ofBool, WordArith.ofBool_eq_one_iff, hlt]
    simp
  unfold Scalar.select
  by_cases h : b = 1
  · rw [if_pos h, if_pos (hA.1 h)]
  · rw [if_neg h, if_neg (fun h' => h (hA.2 h'))]

/-- The label sums: each of the 512 cells adds 32 places' shares, in row-major order. -/
theorem lab_eq (c : Dev nD) (p : Fin 32) (q : Fin 16) : (V m c main_v39 : Vec Ideal S32x16 .f32) (ix2 p q)
    = ∑ x : Fin 32, share (m ((c : Thread nD τ).loc main_arg0)) (m ((c : Thread nD τ).loc main_arg1)) (m ((c : Thread nD τ).loc main_arg2))
        ⟨p.val * 32 + q.val * 2 + x.val / 16, by omega⟩ ⟨x.val % 16, by omega⟩ := by
  have hz : (id (constant (F := Ideal) S_ FTy.f32 0#32) ix0 : EReal) = 0 := Ideal.ofBits_zero_f32
  unfold V share rows
  after_reads_at
  have hs : ∀ (b : BitVec 1) (u v w : EReal), u = v → Scalar.select b u w = Scalar.select b v w := fun b u v w h => by rw [h]
  exact Finset.sum_congr rfl fun x _ => hs _ _ _ _ hz

end Cert.KernelIdeal.Loss

end
-- ==== Proof.Equation.lean ====
/- The kernel's value is the reference's: both are sums of real numbers over the same rows, columns and tag places. -/
module

public import proofs.«01_k».proof.Proof.Acc
public import proofs.«01_k».proof.Proof.Host
public import proofs.«01_k».proof.Proof.Rows
public import Idealize.ShloMosaic.Lib.Pointwise.Sums

@[expose] public section

set_option maxRecDepth 16384

noncomputable section

open Idealize.ShloMosaic

namespace Cert.Equation

open Cert.Rows
open Cert.KernelIdeal (S1024x64 S100000x64 S100352x64 S1024x16 S32x16)
open Cert.KernelIdeal.Loss (share Again)

/-- A sum over 49 blocks of 2048 columns, the columns past the table masked to zero, is the sum over the table. -/
theorem sum_blocks (g : Fin 100000 → ℝ) :
    ∑ t : Fin 49, ∑ j : Fin 2048, (if h : t.val * 2048 + j.val < 100000 then g ⟨t.val * 2048 + j.val, h⟩ else 0) = ∑ k, g k := by
  rw [← Fin.sum_univ_tiles 49 2048 (N := 100352) rfl (fun n => if h : n.val < 100000 then g ⟨n.val, h⟩ else 0)]
  refine (Fin.sum_univ_add (a := 100000) (b := 352) fun n => if h : n.val < 100000 then g ⟨n.val, h⟩ else 0).trans ?_
  rw [Finset.sum_eq_zero (s := Finset.univ (α := Fin 352)) fun n _ => dif_neg (by simp), add_zero]
  refine Finset.sum_congr rfl fun k _ => ?_
  rw [dif_pos (by simp)]
  rfl

/-- The sum over the 512 cells of 32 tag places each is the sum over the rows of 16 tag places each. -/
theorem sum_cells (f : Fin 1024 → Fin 16 → ℝ) :
    ∑ p : Fin 32, ∑ q : Fin 16, ∑ x : Fin 32, f ⟨p.val * 32 + q.val * 2 + x.val / 16, by omega⟩ ⟨x.val % 16, by omega⟩ = ∑ i, ∑ t, f i t := by
  let G : Fin 16384 → ℝ := fun n => f ⟨n.val / 16, by omega⟩ ⟨n.val % 16, by omega⟩
  have h1 : ∑ n, G n = ∑ i, ∑ t, f i t := by
    rw [Fin.sum_univ_tiles 1024 16 rfl]
    refine Finset.sum_congr rfl fun i _ => Finset.sum_congr rfl fun t _ => ?_
    exact congrArg₂ f (Fin.ext (by show (i.val * 16 + t.val) / 16 = i.val; omega)) (Fin.ext (by show (i.val * 16 + t.val) % 16 = t.val; omega))
  rw [← h1, Fin.sum_univ_tiles 32 512 rfl]
  refine Finset.sum_congr rfl fun p _ => ?_
  rw [Fin.sum_univ_tiles 16 32 (N := 512) rfl]
  refine Finset.sum_congr rfl fun q _ => Finset.sum_congr rfl fun x _ => ?_
  exact congrArg₂ f (Fin.ext (by show p.val * 32 + q.val * 2 + x.val / 16 = (p.val * 512 + (q.val * 32 + x.val)) / 16; omega))
    (Fin.ext (by show x.val % 16 = (p.val * 512 + (q.val * 32 + x.val)) % 16; omega))

open Classical in
/-- A sum over the tags that occur, each counted once, is the sum over the tag places that repeat no earlier place. -/
theorem sum_first {K : ℕ} (g : Fin 16 → Fin K) (D : Fin K → ℝ) :
    ∑ k, D k * (if ∃ t, g t = k then 1 else 0) = ∑ t, if ∃ t', g t = g t' ∧ t' < t then 0 else D (g t) := by
  have hL : ∑ k, D k * (if ∃ t, g t = k then (1 : ℝ) else 0) = ∑ k ∈ Finset.univ.image g, D k := by
    simp only [mul_ite, mul_one, mul_zero]
    rw [← Finset.sum_filter]
    refine Finset.sum_congr (Finset.ext fun k => ?_) fun _ _ => rfl
    simp
  have hR : (∑ t, if ∃ t', g t = g t' ∧ t' < t then 0 else D (g t)) = ∑ t ∈ Finset.univ.filter (fun t => ¬ ∃ t', g t = g t' ∧ t' < t), D (g t) := by
    rw [Finset.sum_filter]
    exact Finset.sum_congr rfl fun t _ => by split_ifs <;> rfl
  have hI : Finset.univ.image g = (Finset.univ.filter (fun t => ¬ ∃ t', g t = g t' ∧ t' < t)).image g := by
    refine Finset.ext fun k => ⟨fun h => ?_, fun h => ?_⟩
    · obtain ⟨t, -, rfl⟩ := Finset.mem_image.mp h
      clear h
      induction t using WellFoundedLT.induction with
      | ind t ih =>
        by_cases hA : ∃ t', g t = g t' ∧ t' < t
        · obtain ⟨t', he, hlt⟩ := hA
          rw [he]
          exact ih t' hlt
        · exact Finset.mem_image.mpr ⟨t, Finset.mem_filter.mpr ⟨Finset.mem_univ _, hA⟩, rfl⟩
    · obtain ⟨t, -, rfl⟩ := Finset.mem_image.mp h
      exact Finset.mem_image_of_mem g (Finset.mem_univ t)
  rw [hL, hR, hI, Finset.sum_image]
  intro a ha b hb he
  have ha' := (Finset.mem_filter.mp ha).2
  have hb' := (Finset.mem_filter.mp hb).2
  rcases lt_trichotomy a b with h | h | h
  · exact absurd ⟨a, he.symm, h⟩ hb'
  · exact h
  · exact absurd ⟨b, he, h⟩ ha'

variable (X : Vec Ideal S1024x64 .f32) (Y : Vec Ideal S100000x64 .f32) (T : IVec S1024x16 32)

/-- The product of the directions of region row `i` and table row `k`. -/
def dot (i : Fin 1024) (k : Fin 100000) : ℝ := ∑ d : Fin 64, dir (fun d => X (ix2 i d)) d * dir (fun d => Y (ix2 k d)) d

/-- The kernel's similarity on the table's columns. -/
theorem simK (P : Vec Ideal S100352x64 .f32) (hX : ∀ i, Ok fun d => X (ix2 i d)) (hY : ∀ k, Ok fun d => Y (ix2 k d))
    (hP : ∀ (k : Fin 100352) (h : k.val < 100000) (d : Fin 64), P (ix2 k d) = Y (ix2 ⟨k.val, h⟩ d)) (i : Fin 1024) (k : Fin 100352) (h : k.val < 100000) :
    Cert.KernelIdeal.Loss.sim X P i k = ((50 * dot X Y i ⟨k.val, h⟩ : ℝ) : EReal) := by
  unfold Cert.KernelIdeal.Loss.sim dot
  rw [Finset.mul_sum, coe_sum]
  refine Finset.sum_congr rfl fun d _ => ?_
  simp only [hP k h]
  refine (congrArg₂ (· * ·) (mul_fifty_rlen _ (hX i) d) (mul_rlen _ (hY ⟨k.val, h⟩) d)).trans ?_
  rw [← EReal.coe_mul, mul_assoc]

/-- The reference's similarity. -/
theorem simR (hX : ∀ i, Ok fun d => X (ix2 i d)) (hY : ∀ k, Ok fun d => Y (ix2 k d)) (i : Fin 1024) (k : Fin 100000) :
    Cert.ReferenceIdeal.Loss.sim X Y i k = ((50 * dot X Y i k : ℝ) : EReal) := by
  unfold Cert.ReferenceIdeal.Loss.sim dot
  rw [EReal.coe_mul, coe_sum, lit_fifty]
  refine congrArg _ (Finset.sum_congr rfl fun d _ => ?_)
  rw [EReal.coe_mul, ← unit_eq _ (hX i), ← unit_eq _ (hY k)]
  rfl

open Classical in
/-- The kernel's share of a tag place. -/
theorem shareK (hX : ∀ i, Ok fun d => X (ix2 i d)) (hY : ∀ k, Ok fun d => Y (ix2 k d)) (hT : ∀ i t, (T (ix2 i t)).toNat < 100000)
    (i : Fin 1024) (t : Fin 16) :
    share X Y T i t = ((if Again T i t then 0 else dot X Y i ⟨(T (ix2 i t)).toNat, hT i t⟩ : ℝ) : EReal) := by
  rw [Cert.KernelIdeal.Loss.share_eq]
  split_ifs
  · rfl
  · simp only [Cert.KernelIdeal.Loss.rows_eq Y T i t (hT i t)]
    exact mul_rsqrt _ _ (hX i) (hY _)

open Classical in
/-- The label as a real number. -/
theorem labelR (hT : ∀ i t, (T (ix2 i t)).toNat < 100000) (i : Fin 1024) (k : Fin 100000) :
    Cert.ReferenceIdeal.Loss.label T (ix2 i k)
      = ((if ∃ t : Fin 16, (⟨(T (ix2 i t)).toNat, hT i t⟩ : Fin 100000) = k then 1 else 0 : ℝ) : EReal) := by
  rw [Cert.ReferenceIdeal.Loss.label_eq T hT]
  simp only [Fin.ext_iff]
  split_ifs <;> rfl

open Classical in
/-- With rows that the precondition admits and tags in range, the kernel's value on the padded table and the host's label sums is the reference's. -/
theorem equal (P : Vec Ideal S100352x64 .f32) (L : Vec Ideal S32x16 .f32)
    (hX : ∀ i, Ok fun d => X (ix2 i d)) (hY : ∀ k, Ok fun d => Y (ix2 k d)) (hT : ∀ i t, (T (ix2 i t)).toNat < 100000)
    (hP : ∀ (k : Fin 100352) (h : k.val < 100000) (d : Fin 64), P (ix2 k d) = Y (ix2 ⟨k.val, h⟩ d))
    (hL : ∀ (p : Fin 32) (q : Fin 16), L (ix2 p q)
      = ∑ x : Fin 32, share X Y T ⟨p.val * 32 + q.val * 2 + x.val / 16, by omega⟩ ⟨x.val % 16, by omega⟩) :
    Cert.KernelIdeal.Loss.total X P L = Cert.ReferenceIdeal.Loss.total X Y T := by
  let A : ℝ := ∑ i : Fin 1024, ∑ k : Fin 100000, sp (50 * dot X Y i k)
  let B : ℝ := ∑ i : Fin 1024, ∑ t : Fin 16, if Again T i t then 0 else dot X Y i ⟨(T (ix2 i t)).toNat, hT i t⟩
  have hA : ∑ t : Fin 49, Cert.KernelIdeal.Loss.part X P t = (A : EReal) := by
    have hp : ∀ t : Fin 49, Cert.KernelIdeal.Loss.part X P t = ((∑ i : Fin 1024, ∑ j : Fin 2048,
        (if h : t.val * 2048 + j.val < 100000 then sp (50 * dot X Y i ⟨t.val * 2048 + j.val, h⟩) else 0) : ℝ) : EReal) := by
      intro t
      unfold Cert.KernelIdeal.Loss.part
      rw [coe_sum]
      refine Finset.sum_congr rfl fun i _ => ?_
      rw [coe_sum]
      refine Finset.sum_congr rfl fun j _ => ?_
      split_ifs with h
      · rw [simK X Y P hX hY hP i _ h, softp_coe]
      · rfl
    rw [Finset.sum_congr rfl fun t _ => hp t, ← coe_sum, Finset.sum_comm]
    exact congrArg _ (Finset.sum_congr rfl fun i _ => sum_blocks fun k => sp (50 * dot X Y i k))
  have hB : ∑ p : Fin 32, ∑ q : Fin 16, L (ix2 p q) = (B : EReal) := by
    show _ = ((∑ i : Fin 1024, ∑ t : Fin 16, if Again T i t then 0 else dot X Y i ⟨(T (ix2 i t)).toNat, hT i t⟩ : ℝ) : EReal)
    rw [← sum_cells, coe_sum]
    refine Finset.sum_congr rfl fun p _ => ?_
    rw [coe_sum]
    refine Finset.sum_congr rfl fun q _ => ?_
    rw [coe_sum, hL]
    exact Finset.sum_congr rfl fun x _ => shareK X Y T hX hY hT _ _
  have hC : (∑ i : Fin 1024, ∑ k : Fin 100000,
      (Cert.ReferenceIdeal.Loss.loss (Cert.ReferenceIdeal.Loss.sim X Y i k) (Cert.ReferenceIdeal.Loss.label T (ix2 i k)) * Cert.ReferenceIdeal.Loss.label T (ix2 i k)
        + Cert.ReferenceIdeal.Loss.loss (Cert.ReferenceIdeal.Loss.sim X Y i k) (Cert.ReferenceIdeal.Loss.label T (ix2 i k)) * (1 - Cert.ReferenceIdeal.Loss.label T (ix2 i k))))
      = ((A - 50 * B : ℝ) : EReal) := by
    have hAB : A - 50 * B = ∑ i : Fin 1024, ∑ k : Fin 100000, (sp (50 * dot X Y i k)
        - 50 * dot X Y i k * (if ∃ t : Fin 16, (⟨(T (ix2 i t)).toNat, hT i t⟩ : Fin 100000) = k then 1 else 0)) := by
      show (∑ i : Fin 1024, ∑ k : Fin 100000, sp (50 * dot X Y i k)) - 50 * (∑ i : Fin 1024, ∑ t : Fin 16, _) = _
      rw [Finset.mul_sum, ← Finset.sum_sub_distrib]
      refine Finset.sum_congr rfl fun i _ => ?_
      rw [Finset.sum_sub_distrib]
      refine congrArg _ ?_
      simp only [mul_assoc]
      rw [← Finset.mul_sum, sum_first]
      refine congrArg _ (Finset.sum_congr rfl fun t _ => ?_)
      have hiff : Again T i t ↔ ∃ t' : Fin 16, (⟨(T (ix2 i t)).toNat, hT i t⟩ : Fin 100000) = ⟨(T (ix2 i t')).toNat, hT i t'⟩ ∧ t' < t := by
        unfold Again
        simp only [Fin.mk.injEq, BitVec.toNat_inj]
      simp only [hiff]
    rw [hAB, coe_sum]
    refine Finset.sum_congr rfl fun i _ => ?_
    rw [coe_sum]
    refine Finset.sum_congr rfl fun k _ => ?_
    rw [simR X Y hX hY, labelR T hT, loss_coe, ← EReal.coe_one, ← EReal.coe_sub, ← EReal.coe_mul, ← EReal.coe_mul, ← EReal.coe_add]
    refine congrArg _ ?_
    ring
  unfold Cert.KernelIdeal.Loss.total Cert.ReferenceIdeal.Loss.total
  rw [hA, hB, hC, lit_fifty, lit_scale, lit_weight, lit_batch, lit_count]
  unfold Ideal.div
  rw [if_neg (by norm_num), ← EReal.coe_mul, ← EReal.coe_sub, ← EReal.coe_mul, ← EReal.coe_inv, ← EReal.coe_mul, ← EReal.coe_mul, ← EReal.coe_mul]
  refine congrArg _ ?_
  ring

end Cert.Equation

end
-- ==== Proof.lean ====
/- The proof of the five claims: the frames, the idealization, and the equality of the kernel's result cell with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem Cert.Kernel

instance : Cert.Pre_admissible.Facts := Cert.Pre_admissible.Loss.facts

/-- From equal arguments that the precondition admits, the kernel's result cell is the reference's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_admissible m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v56 m' c = (Cert.KernelIdeal.Gen.dats m 0 c).arrAt 3 Cert.KernelIdeal.cfg0.N := by
  obtain ⟨hT, hX, hY⟩ := Cert.Pre_admissible.Loss.read _ _ _ (hpre c)
  funext y
  refine (Cert.ReferenceIdeal.Loss.ref_eq m' c y).trans ?_
  rw [h0, h1, h2, Cert.KernelIdeal.Loss.final m c]
  refine (Cert.Equation.equal _ _ _ _ _ hX hY hT (fun k h d => ?_) fun p q => Cert.KernelIdeal.Loss.lab_eq m c p q).symm
  exact (Cert.KernelIdeal.Loss.tab_eq m c k d).trans (dif_pos h)

/-- The kernel and the reference both run, and end with equal result cells and unchanged arguments. -/
theorem algebraic : Cert.algebraic_KernelIdeal_ReferenceIdeal_pre_admissible := by
  pair_intro
  · run_from Cert.KernelIdeal.Value.run_blocks m g
  · run_from Cert.ReferenceIdeal.Value.run m' g'
    exact same m m' c hpre (hagree c).1 (hagree c).2.1 (hagree c).2.2

/-- The reference's frame: it runs, its arguments end unchanged, and it has no semaphore. -/
theorem frameR (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

/-- The five claims. -/
theorem claim : Cert.Claim :=
  ⟨Cert.Kernel.Gen.facts, Cert.KernelIdeal.Gen.facts, Cert.ReferenceIdeal.Gen.facts, Cert.Pre_admissible.Loss.facts,
    fun m ρ _ => Cert.Kernel.Gen.frame m ρ,
    fun m ρ _ => Cert.KernelIdeal.Gen.frame m ρ,
    fun m ρ _ => Cert.KernelIdeal.Gen.frame m ρ,
    fun m g _ => frameR m g,
    fun m g _ => frameR m g,
    trivial,
    algebraic⟩

end Cert.Proof

end
